-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough [hPre_enough : Cert.Pre_enough.Facts] (m : (ℓ : Loc Cert.KernelIdeal.nD Cert.KernelIdeal.τ Cert.KernelIdeal.sig) → Buf (Elt Ideal) ℓ) : Prop :=
  ∀ c : Dev Cert.KernelIdeal.nD,
    (Cert.Pre_enough.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough [hPre_enough : Cert.Pre_enough.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_enough [hKernelIdeal : Cert.KernelIdeal.Facts] [hPre_enough : Cert.Pre_enough.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_enough [hReferenceIdeal : Cert.ReferenceIdeal.Facts] [hPre_enough : Cert.Pre_enough.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_enough [hKernelIdeal : Cert.KernelIdeal.Facts] [hReferenceIdeal : Cert.ReferenceIdeal.Facts] [hPre_enough : Cert.Pre_enough.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_enough : Cert.Pre_enough.Facts),
    quiescent_Kernel (hKernel := hKernel)
    ∧ quiescent_KernelIdeal (hKernelIdeal := hKernelIdeal)
    ∧ quiescent_KernelIdeal_pre_enough (hKernelIdeal := hKernelIdeal) (hPre_enough := hPre_enough)
    ∧ quiescent_ReferenceIdeal (hReferenceIdeal := hReferenceIdeal)
    ∧ quiescent_ReferenceIdeal_pre_enough (hReferenceIdeal := hReferenceIdeal) (hPre_enough := hPre_enough)
    ∧ preserves_Kernel_KernelIdeal
    ∧ algebraic_KernelIdeal_ReferenceIdeal_pre_enough (hKernelIdeal := hKernelIdeal) (hReferenceIdeal := hReferenceIdeal) (hPre_enough := hPre_enough)
-- ==== Pre_enough.lean ====
abbrev S128x32768 : Shape := ⟨2, ![128, 32768]⟩
abbrev S_ : Shape := ⟨0, ![]⟩
abbrev S128 : Shape := ⟨1, ![128]⟩

class Facts : Prop where
  bcast_S_S128x32768 : S_.BroadcastsInDim S128x32768 (![] : Fin 0 → Fin S128x32768.rank)
  natLt_1_32 : 1 < 32
  reducesTo_S128x32768_S128_d1 : S128x32768.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x32768 .f32) : IVec S_ 1 :=
  let main_cst : FVec F S_ .f32 := constant S_ .f32 0xFF800000#32
  let main_v0 : FVec F S128x32768 .f32 := broadcastInDim S128x32768 ![] bcast_S_S128x32768 main_cst
  let main_v1 : IVec S128x32768 1 := cmpf .ogt main_arg0 main_v0
  let main_v2 : IVec S128x32768 32 := (extui 32 · natLt_1_32) main_v1
  let main_c : IVec S_ 32 := constantI S_ 32 0#32
  let main_v3 : IVec S128 32 := (fun x v => Host.reduce IntOp.addi x v reducesTo_S128x32768_S128_d1 h_S_) main_v2 main_c
  let main_c_0 : IVec S_ 32 := constantI S_ 32 64#32
  let main_v4 : IVec S128 32 := broadcastInDim S128 ![] bcast_S_S128 main_c_0
  let main_v5 : IVec S128 1 := cmpi .sge main_v3 main_v4
  let main_c_1 : IVec S_ 1 := constantI S_ 1 1#1
  let main_v6 : IVec S_ 1 := (fun x v => Host.reduce IntOp.andi x v reducesTo_S128_S_d0 h_S_) main_v5 main_c_1
  main_v6
-- ==== Kernel.lean ====
abbrev S128x32768 : Shape := ⟨2, ![128, 32768]⟩
abbrev S128x64 : Shape := ⟨2, ![128, 64]⟩
abbrev S8x32768 : Shape := ⟨2, ![8, 32768]⟩
abbrev S8x64 : Shape := ⟨2, ![8, 64]⟩
abbrev S8 : Shape := ⟨1, ![8]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x32768, .f32⟩
  | .hbm, ⟨1, _⟩ => ⟨S128x64, .i32⟩
  | .local _ .vmem, ⟨0, _⟩ => ⟨S8x32768, .f32⟩
  | .local _ .vmem, ⟨1, _⟩ => ⟨S8x32768, .f32⟩
  | .local _ .vmem, ⟨2, _⟩ => ⟨S8x64, .i32⟩
  | .local _ .vmem, ⟨3, _⟩ => ⟨S8x64, .i32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c64_i32 : BitVec 32 := 64#32
  let v4 : BitVec 32 := Scalar.addi c0_i32_1 c64_i32
  let c1_i32 : BitVec 32 := 1#32
  ⟨c0_i32_1, v4, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x32768 : Shape := ⟨2, ![128, 32768]⟩
abbrev S128x64 : Shape := ⟨2, ![128, 64]⟩

abbrev nBuf : Space → Nat
  | .hbm => 3
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x64, .f32⟩
  | .hbm, ⟨2, _⟩ => ⟨S128x64, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Order.lean ====
/-
  THE MATHEMATICS OF A TOP-K BY REPEATED MAXIMUM, on one row of extended reals.

  A stable descending sort lists a row's positions so that values fall, and among equal values positions rise
  (`sorted_pair`).  A round of the kernel takes the row's maximum, the least position that attains it, and overwrites
  that position with −∞ (`rowMax`, `cand`, `pick`, `next`).  As long as at least `r + 1` elements are above −∞, round `r`
  picks the position that the sort puts at place `r` (`pick_rounds`).
-/
module

public import Idealize.ShloMosaic.PureOps.Reduce
public import Idealize.ShloMosaic.Lib.SortFacts
public import Idealize.ShloMosaic.Lib.SortPrefix
public import Mathlib.Data.EReal.Basic

@[expose] public section

noncomputable section

namespace Cert.TopK

open Idealize.ShloMosaic

variable {n : ℕ}

/-! ## The stable descending sort -/

/-- Position `k` holds a strictly greater value than `k'`. -/
def greater (x : Fin n → EReal) (k k' : Fin n) : Bool := decide (x k' < x k)

/-- Position `k` holds a greater value than `k'`, or an equal one at a lower position. -/
def ahead (x : Fin n → EReal) (k k' : Fin n) : Bool := decide (x k' < x k) || (decide (x k = x k') && decide (k < k'))

/-- `ahead` says: a greater value, or an equal value and a lesser column. -/
theorem ahead_iff (x : Fin n → EReal) (k k' : Fin n) : ahead x k k' = true ↔ x k' < x k ∨ (x k = x k' ∧ k < k') := by
  simp [ahead]

/-- `ahead` is a strict total order of the positions. -/
theorem ahead_total (x : Fin n → EReal) : StrictTotalBefore (ahead x) :=
  StrictTotalBefore.of_key_then_position (fun a b : EReal => decide (b < a)) x (fun _ => by simp)
    (fun _ _ _ hab hbc => by simp only [decide_eq_true_eq] at hab hbc ⊢; exact hbc.trans hab)
    (fun a b => by simp only [decide_eq_true_eq]; exact (lt_trichotomy b a).imp id (Or.imp Eq.symm id))

/-- On positions listed in rising order, the stable sort that compares values alone is the sort by `ahead`. -/
theorem stableSort_greater (x : Fin n → EReal) :
    ∀ l : List (Fin n), l.Pairwise (· < ·) → stableSort (greater x) l = stableSort (ahead x) l
  | [], _ => rfl
  | a :: l, h => by
    have hl := List.pairwise_cons.mp h
    unfold stableSort
    rw [stableSort_greater x l hl.2]
    refine insertBefore_congr _ _ a _ fun b hb => ?_
    have hab : a < b := hl.1 b ((perm_stableSort _ _).mem_iff.mp hb)
    unfold greater ahead
    rw [decide_eq_false (not_lt.mpr hab.le), Bool.and_false, Bool.or_false]

/-- The position that the stable descending sort puts at place `k`. -/
def place (x : Fin n → EReal) : Fin n → Fin n := sortedFrom (greater x)

/-- No column has two places. -/
theorem place_injective (x : Fin n → EReal) : Function.Injective (place x) := sortedFrom_injective _

/-- Every column has a place. -/
theorem place_surjective (x : Fin n → EReal) : Function.Surjective (place x) := sortedFrom_surjective _

/-- The places are the columns sorted by `ahead`. -/
theorem place_eq (x : Fin n → EReal) : place x = sortedFrom (ahead x) := by
  funext k
  unfold place sortedFrom sortPositions
  rw [List.get_of_eq (stableSort_greater x _ (List.pairwise_lt_finRange n))]
  rfl

/-- Of two places the earlier holds the greater value, or an equal one at the lower position. -/
theorem sorted_pair (x : Fin n → EReal) {i j : Fin n} (h : i < j) :
    x (place x j) < x (place x i) ∨ (x (place x i) = x (place x j) ∧ place x i < place x j) := by
  have hB := ahead_total x
  have hno : ahead x (place x j) (place x i) = false := by
    rw [place_eq]
    exact sortedFrom_noInversion _ _ (fun a b => hB.asymm a b) (fun _ _ h => h) hB.negTrans i j h
  rcases hB.total (place x i) (place x j) fun e => h.ne (place_injective x e) with h' | h'
  · exact (ahead_iff x _ _).mp h'
  · rw [h'] at hno; exact absurd hno (by decide)

/-- If more than `r` elements are above −∞, the element at place `r` is. -/
theorem bot_lt_place (x : Fin n → EReal) (r : Fin n)
    (hc : r.val < (Finset.univ.filter fun j => ⊥ < x j).card) : ⊥ < x (place x r) := by
  by_contra hbot
  have hle : (Finset.univ.filter fun j => ⊥ < x j).card ≤ ((Finset.univ.filter fun i : Fin n => i < r).image (place x)).card := by
    refine Finset.card_le_card fun j hj => ?_
    obtain ⟨i, rfl⟩ := place_surjective x j
    refine Finset.mem_image.mpr ⟨i, Finset.mem_filter.mpr ⟨Finset.mem_univ _, ?_⟩, rfl⟩
    by_contra hir
    have hpos := (Finset.mem_filter.mp hj).2
    rcases (not_lt.mp hir).eq_or_lt with e | hlt
    · subst e; exact hbot hpos
    · rcases sorted_pair x hlt with h | h
      · exact hbot (hpos.trans h)
      · exact hbot (h.1 ▸ hpos)
  have hcard : ((Finset.univ.filter fun i : Fin n => i < r).image (place x)).card ≤ r.val := by
    refine Finset.card_image_le.trans ?_
    rw [show (Finset.univ.filter fun i : Fin n => i < r) = Finset.Iio r by ext; simp, Fin.card_Iio]
  omega

/-! ## A round on one row -/

/-- The row's maximum, from −∞. -/
def rowMax (v : Fin n → EReal) : EReal := Finset.univ.fold max ⊥ v

/-- The position as a word where the row holds its maximum, 2³⁰ elsewhere. -/
def cand (v : Fin n → EReal) (j : Fin n) : BitVec 32 := if v j = rowMax v then BitVec.ofNat 32 j.val else 1073741824#32

/-- The least candidate. -/
def pick (v : Fin n → EReal) : BitVec 32 := Finset.univ.fold IntOp.minsi 2147483647#32 (cand v)

/-- The row with −∞ where the candidate is the picked one. -/
def next (v : Fin n → EReal) (j : Fin n) : EReal := if cand v j = pick v then ⊥ else v j

/-- The row at the start of round `r`. -/
def rounds (x : Fin n → EReal) : ℕ → Fin n → EReal
  | 0 => x
  | r + 1 => next (rounds x r)

/-- `p` is the first position of the row's maximum. -/
structure First (v : Fin n → EReal) (p : Fin n) : Prop where
  le : ∀ j, v j ≤ v p
  lt : ∀ j, j < p → v j < v p

/-- The row's maximum is the value at its first column. -/
theorem rowMax_eq {v : Fin n → EReal} {p : Fin n} (h : First v p) : rowMax v = v p :=
  le_antisymm (Finset.fold_max_le (b := ⊥) _ |>.mpr ⟨bot_le, fun j _ => h.le j⟩)
    (Finset.le_fold_max (b := ⊥) _ |>.mpr (Or.inr ⟨p, Finset.mem_univ _, le_rfl⟩))

/-- The signed minimum of two words is the minimum of their integers. -/
theorem toInt_minsi (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by simpa using h), min_eq_right (not_lt.mp h)]

/-- A number below 2^31 is the integer of its word. -/
theorem toInt_ofNat_small {a : ℕ} (h : a < 2 ^ 31) : (BitVec.ofNat 32 a).toInt = a := by
  rw [BitVec.toInt_eq_toNat_of_lt] <;> rw [BitVec.toNat_ofNat, Nat.mod_eq_of_lt (by omega)]
  omega

/-- The candidate at the row's first column is that column. -/
theorem cand_first {v : Fin n → EReal} {p : Fin n} (h : First v p) : cand v p = BitVec.ofNat 32 p.val := by
  unfold cand; rw [if_pos (rowMax_eq h).symm]

/-- Every other candidate is greater than the first position of the maximum. -/
theorem lt_toInt_cand (hn : n ≤ 2 ^ 30) {v : Fin n → EReal} {p : Fin n} (h : First v p) {j : Fin n} (hj : j ≠ p) :
    (p.val : ℤ) < (cand v j).toInt := by
  have hp := p.isLt; have hjl := j.isLt
  unfold cand
  split
  · rename_i e
    rw [toInt_ofNat_small (by omega)]
    have : ¬ j < p := fun hlt => (h.lt j hlt).ne (e.trans (rowMax_eq h))
    have hne : j.val ≠ p.val := fun e => hj (Fin.ext e)
    have : p.val ≤ j.val := not_lt.mp this
    omega
  · rw [show (1073741824#32 : BitVec 32).toInt = 1073741824 by decide]
    omega

/-- A round picks the row's first column. -/
theorem pick_eq (hn : n ≤ 2 ^ 30) {v : Fin n → EReal} {p : Fin n} (h : First v p) : pick v = BitVec.ofNat 32 p.val := by
  have hp := p.isLt
  have hp' : (BitVec.ofNat 32 p.val).toInt = p.val := toInt_ofNat_small (by omega)
  refine BitVec.eq_of_toInt_eq ?_
  unfold pick
  have hhom := (Finset.fold_hom (op := IntOp.minsi (w := 32)) (op' := (min : ℤ → ℤ → ℤ)) (m := BitVec.toInt)
    (b := 2147483647#32) (f := cand v) (s := Finset.univ) toInt_minsi).symm
  rw [hhom, hp']
  refine le_antisymm (Finset.fold_min_le _ |>.mpr (Or.inr ⟨p, Finset.mem_univ _, ?_⟩)) (Finset.le_fold_min _ |>.mpr ⟨?_, fun j _ => ?_⟩)
  · rw [cand_first h, hp']
  · rw [show (2147483647#32 : BitVec 32).toInt = 2147483647 by decide]; omega
  · by_cases hj : j = p
    · subst hj; rw [cand_first h, hp']
    · exact (lt_toInt_cand hn h hj).le

/-- The round overwrites the first position of the maximum and no other. -/
theorem next_eq (hn : n ≤ 2 ^ 30) {v : Fin n → EReal} {p : Fin n} (h : First v p) (j : Fin n) :
    next v j = if j = p then ⊥ else v j := by
  unfold next
  rw [pick_eq hn h]
  by_cases hj : j = p
  · subst hj; rw [if_pos (cand_first h), if_pos rfl]
  · refine (if_neg fun e => ?_).trans (if_neg hj).symm
    have hlt := lt_toInt_cand hn h hj
    have hp := p.isLt
    rw [e, toInt_ofNat_small (by omega)] at hlt
    omega

/-! ## The rounds are the sort -/

/-- A row that holds −∞ at the positions sorted before place `i` and the elements elsewhere has its first maximum at
the position sorted to place `i`. -/
theorem first_of_removed (x v : Fin n → EReal) (i : Fin n) (hpos : ⊥ < x (place x i))
    (hv : ∀ k : Fin n, v (place x k) = if k < i then ⊥ else x (place x k)) : First v (place x i) := by
  have hself : v (place x i) = x (place x i) := by rw [hv, if_neg (lt_irrefl i)]
  constructor
  · intro j
    obtain ⟨k, rfl⟩ := place_surjective x j
    rw [hself, hv]
    split
    · exact bot_le
    · rename_i hk
      rcases (not_lt.mp hk).eq_or_lt with e | hlt
      · subst e; exact le_rfl
      · rcases sorted_pair x hlt with h | h
        · exact h.le
        · exact h.1.ge
  · intro j hj
    obtain ⟨k, rfl⟩ := place_surjective x j
    rw [hself, hv]
    split
    · exact hpos
    · rename_i hk
      rcases (not_lt.mp hk).eq_or_lt with e | hlt
      · subst e; exact absurd hj (lt_irrefl _)
      · rcases sorted_pair x hlt with h | h
        · exact h
        · exact absurd h.2 (not_lt.mpr hj.le)

/-- At the start of round `r` the positions sorted before place `r` hold −∞, the others their element. -/
theorem rounds_place (hn : n ≤ 2 ^ 30) (x : Fin n → EReal) :
    ∀ r : ℕ, r ≤ (Finset.univ.filter fun j => ⊥ < x j).card →
      ∀ k : Fin n, rounds x r (place x k) = if k.val < r then ⊥ else x (place x k)
  | 0, _, k => by rw [if_neg (Nat.not_lt_zero _)]; rfl
  | r + 1, hr, k => by
    have ih := rounds_place hn x r (by omega)
    have hrn : r < n := by
      refine lt_of_lt_of_le (Nat.lt_of_succ_le hr) ?_
      exact (Finset.card_le_univ _).trans_eq (Fintype.card_fin n)
    have hfirst := first_of_removed x (rounds x r) ⟨r, hrn⟩ (bot_lt_place x ⟨r, hrn⟩ hr) ih
    show next (rounds x r) (place x k) = _
    rw [next_eq hn hfirst, ih]
    by_cases hk : k = ⟨r, hrn⟩
    · subst hk; rw [if_pos rfl, if_pos (Nat.lt_succ_self r)]
    · have hne : k.val ≠ r := fun e => hk (Fin.ext e)
      rw [if_neg fun e => hk (place_injective x e)]
      by_cases hlt : k.val < r
      · rw [if_pos hlt, if_pos (by omega)]
      · rw [if_neg hlt, if_neg (by omega)]

/-- Round `r` picks the position that the stable descending sort puts at place `r`. -/
theorem pick_rounds (hn : n ≤ 2 ^ 30) (x : Fin n → EReal) (r : Fin n)
    (hr : r.val < (Finset.univ.filter fun j => ⊥ < x j).card) :
    pick (rounds x r.val) = BitVec.ofNat 32 (place x r).val :=
  pick_eq hn (first_of_removed x _ r (bot_lt_place x r hr) (rounds_place hn x r.val hr.le))

end Cert.TopK

end
-- ==== Proof.Round.lean ====
/-
  ONE ROUND OF THE KERNEL, READ ROW BY ROW on the extended reals: the loop's payloads at row `i` of a block are the
  round of Proof/Order.lean on that row, and the loop's 64 trips leave in column `k` of the result what round `k` picks.
-/
module

public import proofs.«01_k».proof.Proof.Order
public import proofs.«01_k».proof.Proof.Gen.KernelIdeal.Skeleton
public import Idealize.ShloMosaic.PureOps.Ideal.Laws
public import Idealize.ShloMosaic.Lib.ValueLayout
public import Idealize.ShloMosaic.Lib.ValueLayoutCasts
public import Idealize.ShloMosaic.Lib.Pipeline.Value
public import Idealize.ShloMosaic.Lib.WordCmp

@[expose] public section

noncomputable section

namespace Cert.TopK

open Idealize.ShloMosaic Idealize.ShloMosaic.ValueIdx Cert.KernelIdeal Cert.KernelIdeal.Gen

/-- Row `i` of a two-axis array of extended reals. -/
def rowOf {a b : ℕ} (v : FVec Ideal ⟨2, ![a, b]⟩ .f32) (i : Fin a) : Fin b → EReal := fun j => v (ix2 i j)

/-- One column broadcast over many reads its row's entry. -/
theorem broadcastTo_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting column `k` at row `i`. -/
theorem lift_row (h : S8x32768.Reduces [1] S8) (i : Fin 8) (k : Fin 32768) : h.lift (ix1 i) k = ix2 i k := by
  funext ax; match ax with | ⟨0, _⟩ => rfl | ⟨1, _⟩ => rfl

/-- The pattern of −∞ reads as −∞. -/
theorem ofBits_neg_inf : (FloatOps.ofBits .f32 0xFF800000#32 : Ideal .f32) = (⊥ : EReal) := by
  show Ideal.ofBits .f32 0xFF800000#32 = ⊥
  simp [Ideal.ofBits, Ideal.ieee]

/-- The row maxima of a block. -/
theorem maxima_apply (v : FVec Ideal S8x32768 .f32) (i : Fin 8) :
    multiReduction .maximumf [1] S8 v 0xFF800000#32 reduces_S8x32768_S8 (.inl rfl) rfl (ix1 i) = rowMax (rowOf v i) := by
  refine (Ideal.multiReduction_maximumf_single v _ _ _ _ (ix1 i)).trans ?_
  rw [ofBits_neg_inf]
  refine Finset.fold_congr fun k _ => ?_
  exact congrArg v (lift_row _ i k)

/-- The candidates of a block, at a row, are that row's. -/
theorem pay2_apply (v : FVec Ideal S8x32768 .f32) (i : Fin 8) (j : Fin 32768) :
    k0_pay2 (F := Ideal) v (ix2 i j) = cand (rowOf v i) j := by
  unfold k0_pay2
  dsimp only
  rw [select_apply, cmpf_apply, broadcastTo_col, shapeCast_a_a1_apply, maxima_apply, iota_single_apply, broadcast_apply]
  show Scalar.select (BitVec.ofBool (decide (rowOf v i j = rowMax (rowOf v i)))) (BitVec.ofNat 32 j.val) 1073741824#32 = _
  rw [WordCmp.select_decide]
  rfl

/-- The picked word of a row. -/
theorem pay3_apply (v : FVec Ideal S8x32768 .f32) (i : Fin 8) (u : Fin 1) :
    k0_pay3 (F := Ideal) v (ix2 i u) = pick (rowOf v i) := by
  unfold k0_pay3
  dsimp only
  rw [shapeCast_a_a1_apply]
  refine (multiReductionI_eq_fold _ _ _ _ _ (ix1 i)).trans ?_
  show (Finset.univ.filter fun q => (reduces_S8x32768_S8).drop q = ix1 i).fold IntOp.minsi _ _ = _
  rw [Shape.Reduces.fold_filter_drop_single]
  unfold pick
  refine Finset.fold_congr fun k _ => ?_
  exact (congrArg (k0_pay2 (F := Ideal) v) (lift_row _ i k)).trans (pay2_apply v i k)

/-- The block after a round, at a row, is that row after the round. -/
theorem pay5_apply (v : FVec Ideal S8x32768 .f32) (i : Fin 8) (j : Fin 32768) :
    k0_pay5 (F := Ideal) v (ix2 i j) = next (rowOf v i) j := by
  unfold k0_pay5
  show Scalar.select (IntOp.cmpi .eq (k0_pay2 (F := Ideal) v (ix2 i j))
    (broadcastTo S8x32768 (k0_pay3 (F := Ideal) v) broadcasts_S8x1_S8x32768 (ix2 i j)))
    (FloatOps.ofBits .f32 0xFF800000#32 : Ideal .f32) (v (ix2 i j)) = _
  rw [broadcastTo_col, pay3_apply, pay2_apply, ofBits_neg_inf]
  unfold IntOp.cmpi
  rw [WordCmp.select_ofBool]
  unfold next
  by_cases h : cand (rowOf v i) j = pick (rowOf v i)
  · rw [if_pos h, if_pos (beq_iff_eq.mpr h)]
  · rw [if_neg h, if_neg (fun e => h (beq_iff_eq.mp e))]; rfl

/-- The result after trip `k`: column `k` holds the picked word, the others what they held. -/
theorem pay4_apply (k : Fin k0_t1_loop.trips) (v : FVec Ideal S8x32768 .f32) (acc : IVec S8x64 32) (i : Fin 8) (q : Fin 64) :
    k0_pay4 (F := Ideal) k v acc (ix2 i q) = if q.val = k.val then pick (rowOf v i) else acc (ix2 i q) := by
  unfold k0_pay4
  dsimp only
  rw [select_apply, broadcastTo_col, shapeCast_self, pay3_apply]
  have hk : k.val < 64 := k.isLt
  have hq := q.isLt
  show Scalar.select (BitVec.ofBool (iota .tc S8x64 32 [1] iota_S8x64_d1_w32 (ix2 i q) == Scf.iv 0#32 1#32 k)) _ _ = _
  rw [iota_single_apply, WordCmp.select_ofBool,
    show Scf.iv 0#32 1#32 k.val = BitVec.ofNat 32 k.val by unfold Scf.iv; rw [BitVec.mul_one, BitVec.zero_add]]
  have hiff : (BitVec.ofNat 32 q.val == BitVec.ofNat 32 k.val) = true ↔ q.val = k.val := by
    rw [beq_iff_eq]
    refine ⟨fun e => ?_, fun e => by rw [e]⟩
    have := congrArg BitVec.toNat e
    rwa [BitVec.toNat_ofNat, BitVec.toNat_ofNat, Nat.mod_eq_of_lt (by omega), Nat.mod_eq_of_lt (by omega)] at this
  by_cases h : q.val = k.val
  · rw [if_pos h, if_pos (hiff.mpr h)]
  · rw [if_neg h, if_neg (fun e => h (hiff.mp e))]

/-- The loop's state after its first `r` trips, as a fold of the body over the trips in order. -/
def trips (v : FVec Ideal S8x32768 .f32) (l : List (Fin k0_t1_loop.trips)) (acc : IVec S8x64 32) :
    Vec Ideal S8x32768 .f32 × IVec S8x64 32 :=
  l.foldl (fun s k => (k0_pay5 (F := Ideal) s.1, k0_pay4 (F := Ideal) k s.1 s.2)) (v, acc)

/-- A round turns a row after `r` rounds into the row after `r + 1`. -/
theorem rowOf_pay5 (v : FVec Ideal S8x32768 .f32) (i : Fin 8) : rowOf (k0_pay5 (F := Ideal) v) i = next (rowOf v i) :=
  funext fun j => pay5_apply v i j

/-- Over the first `r` trips: a row is that row after `r` rounds, and a column below `r` holds its round's pick. -/
theorem fold_prefix (x : FVec Ideal S8x32768 .f32) (acc : IVec S8x64 32) (i : Fin 8) :
    ∀ r : ℕ, r ≤ 64 →
      rowOf (trips x ((List.finRange k0_t1_loop.trips).take r) acc).1 i = rounds (rowOf x i) r
      ∧ ∀ q : Fin 64, q.val < r →
          (trips x ((List.finRange k0_t1_loop.trips).take r) acc).2 (ix2 i q) = pick (rounds (rowOf x i) q.val)
  | 0, _ => ⟨rfl, fun q hq => absurd hq (Nat.not_lt_zero _)⟩
  | r + 1, hr => by
    obtain ⟨h1, h2⟩ := fold_prefix x acc i r (by omega)
    have hk : r < k0_t1_loop.trips := hr
    have hlen : r < (List.finRange k0_t1_loop.trips).length := by
      rw [List.length_finRange]; exact hr
    have hstep : trips x ((List.finRange k0_t1_loop.trips).take (r + 1)) acc
        = (k0_pay5 (F := Ideal) (trips x ((List.finRange k0_t1_loop.trips).take r) acc).1,
           k0_pay4 (F := Ideal) ⟨r, hk⟩ (trips x ((List.finRange k0_t1_loop.trips).take r) acc).1
             (trips x ((List.finRange k0_t1_loop.trips).take r) acc).2) := by
      unfold trips
      rw [List.take_succ_eq_append_getElem hlen, List.foldl_append, List.getElem_finRange]
      rfl
    rw [hstep]
    dsimp only
    refine ⟨?_, fun q hq => ?_⟩
    · rw [rowOf_pay5, h1]; rfl
    · rw [pay4_apply, h1]
      by_cases hqr : q.val = r
      · rw [if_pos hqr, hqr]
      · rw [if_neg hqr]; exact h2 q (by omega)

/-- After all 64 trips column `q` of the result holds what round `q` picked. -/
theorem fold_all (x : FVec Ideal S8x32768 .f32) (acc : IVec S8x64 32) (i : Fin 8) (q : Fin 64) :
    (trips x (List.finRange k0_t1_loop.trips) acc).2 (ix2 i q) = pick (rounds (rowOf x i) q.val) := by
  have h := (fold_prefix x acc i 64 le_rfl).2 q q.isLt
  rwa [List.take_of_length_le (by rw [List.length_finRange]; exact le_rfl)] at h

end Cert.TopK

end
-- ==== Proof.Block.lean ====
/-
  WHAT THE RESULT ARRAY HOLDS after the run.  One grid point leaves in its staging buffer the loop's second component
  over the staged block of 8 rows (`out_eq`); point `t`'s block is rows `8 t` to `8 t + 7` of the argument (`row_block`);
  so the array holds at row `r` and column `q` what round `q` picks on row `r` of the argument (`final`).
-/
module

public import proofs.«01_k».proof.Proof.Round
public import proofs.«01_k».proof.Proof.Gen.KernelIdeal.Value

@[expose] public section

noncomputable section

namespace Cert.TopK

open Idealize.ShloMosaic Idealize.ShloMosaic.TcCoe Idealize.ShloMosaic.Tactic Idealize.ShloMosaic.ValueIdx
open Cert.KernelIdeal Cert.KernelIdeal.Gen Idealize.SL.Sem

/-- The offsets of the body's loads and store are zero. -/
theorem offsets_zero : (![0, 0] : Fin 2 → ℕ) = fun _ => 0 := funext fun a => by fin_cases a <;> rfl

/-- The body's one store holds the loop's result over the block's rows, from zeros. -/
theorem out_eq (c : Dev nD) (i : grid0.Coords) (arg1 : Memref sig .tc .vmem S8x32768 .f32) (harg1 : arg1.IsWhole)
    (arg2 : Memref sig .tc .vmem S8x64 .i32) (harg2 : arg2.IsWhole) (x0 : Vec Ideal S8x32768 .f32) :
    out0_A_1 (F := Ideal) c i arg1 harg1 arg2 harg2 x0 = (trips x0 (List.finRange k0_t1_loop.trips) k0_pay1).2 := by
  unfold out0_A_1
  rw [View.read_writes_eq_canon _ _ _ (cover0_A_1 c i arg1 harg1 arg2 harg2 x0)]
  unfold kernelRun0_A
  sl_unfold_words
  refine (View.canon_unit_zero offsets_zero _ _).trans ?_
  rw [Scf.fold_eq, View.readAt_eq_ld, harg1.read_unread, View.ld_unit_zero offsets_zero]
  rfl

variable (m : (ℓ : Loc nD τ sig) → Buf (Elt Ideal) ℓ)

/-- The argument array on core `c`. -/
abbrev arg (c : Dev nD) : FVec Ideal S128x32768 .f32 := m ((c : Thread nD τ).loc main_arg0)

/-- What the result array ends holding: at row `r` and column `q`, what round `q` picks on row `r`. -/
def picked (x : FVec Ideal S128x32768 .f32) : IVec S128x64 32 := fun j => pick (rounds (rowOf x (j 0)) (j 1).val)

/-- Point `t` stages block `(t, 0)` of the argument. -/
theorem index_in : ∀ t : Fin cfg0.N, win0_0.index t 0 = t.val ∧ win0_0.index t 1 = 0 :=
  (by decide +kernel : ∀ t : Fin grid0.N, win0_0.index t 0 = t.val ∧ win0_0.index t 1 = 0)

/-- Point `t` writes block `(t, 0)` of the result. -/
theorem index_out : ∀ t : Fin cfg0.N, win0_1.index t 0 = t.val ∧ win0_1.index t 1 = 0 :=
  (by decide +kernel : ∀ t : Fin grid0.N, win0_1.index t 0 = t.val ∧ win0_1.index t 1 = 0)

/-- Row `i` of point `t`'s block as a row of the array. -/
def rowAt (t : Fin cfg0.N) (i : Fin 8) : Fin 128 :=
  ⟨t.val * 8 + i.val, by have : t.val < 16 := lt_of_lt_of_eq t.isLt N_0; omega⟩

/-- Row `i` of the block that point `t` stages is row `8 t + i` of the argument. -/
theorem row_block (c : Dev nD) (t : Fin cfg0.N) (i : Fin 8) : rowOf (iblk m c 0 t) i = rowOf (arg m c) (rowAt t i) := by
  funext j
  obtain ⟨h0, h1⟩ := index_in t
  show arg m c ((win0_0.rect t).emb (ix2 i j)) = arg m c (ix2 (rowAt t i) j)
  refine congrArg _ (funext fun a => Fin.ext ?_)
  match a with
  | ⟨0, _⟩ =>
    show win0_0.index t 0 * 8 + 1 * i.val = t.val * 8 + i.val
    rw [h0]; omega
  | ⟨1, _⟩ =>
    show win0_0.index t 1 * 32768 + 1 * j.val = j.val
    rw [h1]; omega

/-- A block that agrees with an array at the block's place in it is that array read through the block. -/
theorem cut_eq (t : Fin cfg0.N) (X : IVec S8x64 32) (G : IVec S128x64 32) (h : ∀ y : S8x64.Idx, X y = G ((win0_1.rect t).emb y)) :
    (cfg0.win 1).cut (grid0.coords t) X = ((cfg0.win 1).blk t).view.read (Elt Ideal) G :=
  funext h

/-- What point `t` writes back is block `t` of the picked words. -/
theorem flushed_eq (c : Dev nD) (t : Fin cfg0.N) :
    (dats m 0 c).flushed 1 t = ((cfg0.win 1).blk t).view.read (Elt Ideal) (picked (arg m c)) := by
  rw [Value.flushed1_A, out_eq]
  obtain ⟨h0, h1⟩ := index_out t
  refine cut_eq t _ _ fun y => ?_
  obtain ⟨i, q, rfl⟩ : ∃ (i : Fin 8) (q : Fin 64), y = ix2 i q := ⟨y 0, y 1, eq_ix2 y⟩
  rw [fold_all, row_block]
  have e : (win0_1.rect t).emb (ix2 i q) = ix2 (rowAt t i) q := by
    refine funext fun a => Fin.ext ?_
    match a with
    | ⟨0, _⟩ =>
      show win0_1.index t 0 * 8 + 1 * i.val = t.val * 8 + i.val
      rw [h0]; omega
    | ⟨1, _⟩ =>
      show win0_1.index t 1 * 64 + 1 * q.val = q.val
      rw [h1]; omega
  rw [e]
  rfl

/-- The 16 blocks cover the result array. -/
theorem covered (j : S128x64.Idx) : ∃ t : Fin cfg0.N, (cfg0.win 1).flush t = true ∧ j ∈ ((cfg0.win 1).blk t).view.set := by
  have h0 : (j 0).val < 128 := (j 0).isLt
  have h1 : (j 1).val < 64 := (j 1).isLt
  have hN : cfg0.N = 16 := N_0
  obtain ⟨t, ht⟩ : ∃ t : Fin cfg0.N, t.val = (j 0).val / 8 := ⟨⟨(j 0).val / 8, by omega⟩, rfl⟩
  refine ⟨t, flush0_1 t, ?_⟩
  show j ∈ ((View.whole main_v0).slice (win0_1.rect t)).set
  rw [View.set_slice_whole, Rect.mem_set_unit]
  obtain ⟨e0, e1⟩ := index_out t
  intro a
  match a with
  | ⟨0, _⟩ =>
    show win0_1.index t 0 * 8 ≤ (j 0).val ∧ (j 0).val < win0_1.index t 0 * 8 + 8
    rw [e0, ht]; omega
  | ⟨1, _⟩ =>
    show win0_1.index t 1 * 64 ≤ (j 1).val ∧ (j 1).val < win0_1.index t 1 * 64 + 64
    rw [e1]; omega

/-- The result array ends holding the picked words. -/
theorem final (c : Dev nD) : (dats m 0 c).arrAt 1 cfg0.N = picked (arg m c) :=
  (dats m 0 c).arrAt_eq_of_cover 1 (picked (arg m c)) (fun t _ => flushed_eq m c t) covered

end Cert.TopK

end
-- ==== Proof.Reference.lean ====
/-
  WHAT THE REFERENCE COMPUTES: a row's `q`-th index is the position that the stable descending sort of Proof/Order.lean
  puts at place `q`.
-/
module

public import proofs.«01_k».proof.Proof.Round
public import proofs.«01_k».proof.ReferenceIdeal

@[expose] public section

noncomputable section

namespace Cert.TopK

open Idealize.ShloMosaic Idealize.ShloMosaic.ValueIdx

/-- Place `q` of the 64 as a place among the row's 32768. -/
def wide (q : Fin 64) : Fin 32768 := ⟨q.val, by omega⟩

/-- The indices of the reference's top-k at row `r` and place `q`. -/
theorem reference_apply (x : FVec Ideal ⟨2, ![128, 32768]⟩ .f32) (h) (r : Fin 128) (q : Fin 64) :
    (Host.topK ⟨2, ![128, 64]⟩ 1 (FloatOps.cmpfTotal .gt) x h).2 (ix2 r q) = BitVec.ofNat 32 (place (rowOf x r) (wide q)).val := by
  unfold Host.topK
  dsimp only
  refine (extractStridedSlice_apply _ _ _ _ (ix2 r (wide q)) fun a => ?_).trans ?_
  · match a with
    | ⟨0, _⟩ => exact (Nat.zero_add _).symm
    | ⟨1, _⟩ => exact (Nat.zero_add _).symm
  · unfold Host.sort2
    rw [dif_pos (show 1 < 2 by decide)]
    have e : ∀ (p k : Fin 32768), (ix2 r p : (⟨2, ![128, 32768]⟩ : Shape).Idx).along 1 k = ix2 r k := fun p k => by
      funext a
      unfold Shape.Idx.along
      match a with
      | ⟨0, _⟩ => exact Function.update_of_ne (Fin.ne_of_val_ne (show (0 : ℕ) ≠ 1 by decide)) _ _
      | ⟨1, _⟩ => exact Function.update_self _ _ _
    have hcmp : (fun k k' : Fin 32768 => FloatOps.cmpfTotal (F := Ideal) (φ := .f32) .gt
        (x ((ix2 r (wide q) : (⟨2, ![128, 32768]⟩ : Shape).Idx).along 1 k))
        (x ((ix2 r (wide q) : (⟨2, ![128, 32768]⟩ : Shape).Idx).along 1 k')) == 1#1) = greater (rowOf x r) := by
      funext k k'
      rw [e, e, Ideal.cmpfTotal_def]
      show (BitVec.ofBool (decide (rowOf x r k' < rowOf x r k)) == 1#1) = decide (rowOf x r k' < rowOf x r k)
      cases decide (rowOf x r k' < rowOf x r k) <;> rfl
    show BitVec.ofNat 32 ((ix2 r (wide q) : (⟨2, ![128, 32768]⟩ : Shape).Idx).along 1 (sortedFrom (fun k k' : Fin 32768 =>
      FloatOps.cmpfTotal (F := Ideal) (φ := .f32) .gt
        (x ((ix2 r (wide q) : (⟨2, ![128, 32768]⟩ : Shape).Idx).along 1 k))
        (x ((ix2 r (wide q) : (⟨2, ![128, 32768]⟩ : Shape).Idx).along 1 k')) == 1#1) (wide q)) 1).val = _
    rw [hcmp]
    unfold place
    have e1 : ∀ p k : Fin 32768, BitVec.ofNat 32 ((ix2 r p : (⟨2, ![128, 32768]⟩ : Shape).Idx).along 1 k 1).val = BitVec.ofNat 32 k.val :=
      fun p k => by rw [e]
    exact e1 (wide q) (sortedFrom (greater (rowOf x r)) (wide q))

end Cert.TopK

end
-- ==== Proof.Enough.lean ====
/-
  THE PRECONDITION READ BACK: `enough` says that every row of the argument holds at least 64 elements above −∞.
-/
module

public import proofs.«01_k».proof.Proof.Round
public import proofs.«01_k».proof.Pre_enough
public import Idealize.ShloMosaic.Lib.ReduceAll
public import Idealize.ShloMosaic.Lib.StableHlo.Predicate

@[expose] public section

noncomputable section

namespace Cert.TopK

open Idealize.ShloMosaic Idealize.ShloMosaic.ValueIdx

/-- The side conditions that the predicate's operations state. -/
theorem enough_facts : Cert.Pre_enough.Facts where
  bcast_S_S128x32768 := by decide
  natLt_1_32 := by decide
  reducesTo_S128x32768_S128_d1 := by decide
  h_S_ := by decide
  bcast_S_S128 := by decide
  reducesTo_S128_S_d0 := by decide

/-- A small word that compares signed at least 64 is at least 64. -/
theorem le_of_sge (w : BitVec 32) (hw : w.toNat ≤ 32768) (h : IntOp.cmpi .sge w 64#32 = 1#1) : 64 ≤ w.toNat := by
  rw [WordCmp.cmpi_sge_eq, show (64#32 : BitVec 32).toInt = 64 by decide, StableHlo.Predicate.toInt_eq_toNat_of_lt (a := w) (by omega)] at h
  by_contra hlt
  rw [decide_eq_false (by omega)] at h
  exact absurd h (by decide)

/-- Where the predicate holds, each row has at least 64 elements above −∞. -/
theorem enough_count [Cert.Pre_enough.Facts] (x : FVec Ideal ⟨2, ![128, 32768]⟩ .f32)
    (h : Cert.Pre_enough.fn (F := Ideal) x = fun _ => 1#1) (r : Fin 128) :
    64 ≤ (Finset.univ.filter fun j : Fin 32768 => ⊥ < rowOf x r j).card := by
  unfold Cert.Pre_enough.fn at h
  dsimp only at h
  have hr := Host.reduce_andi_all _ _ _ _ _ (congrFun h ix0) (ix1 r)
  have hge : IntOp.cmpi .sge (Host.reduce IntOp.addi (extui 32 _ Cert.Pre_enough.Facts.natLt_1_32) (constantI Cert.Pre_enough.S_ 32 0#32)
    Cert.Pre_enough.Facts.reducesTo_S128x32768_S128_d1 Cert.Pre_enough.Facts.h_S_ (ix1 r)) 64#32 = 1#1 := hr
  have hcount := StableHlo.Predicate.toNat_reduce_count_cols (n := 128) (m := 32768) (by decide)
    (cmpf .ogt x (broadcastInDim ⟨2, ![128, 32768]⟩ ![] Cert.Pre_enough.Facts.bcast_S_S128x32768
      (constant Cert.Pre_enough.S_ .f32 0xFF800000#32)))
    Cert.Pre_enough.Facts.natLt_1_32 Cert.Pre_enough.Facts.reducesTo_S128x32768_S128_d1 Cert.Pre_enough.Facts.h_S_ (ix1 r)
  have hset : (Finset.univ.filter fun q : Fin 32768 => cmpf .ogt x (broadcastInDim ⟨2, ![128, 32768]⟩ ![]
      Cert.Pre_enough.Facts.bcast_S_S128x32768 (constant Cert.Pre_enough.S_ .f32 0xFF800000#32))
      (StableHlo.Predicate.ij (((ix1 r : (⟨1, ![128]⟩ : Shape).Idx)) 0) q) = 1#1) = Finset.univ.filter fun j : Fin 32768 => ⊥ < rowOf x r j := by
    refine Finset.filter_congr fun q _ => ?_
    show Ideal.cmp .ogt (x (ix2 r q)) (FloatOps.ofBits .f32 0xFF800000#32 : Ideal .f32) = 1#1 ↔ ⊥ < x (ix2 r q)
    rw [ofBits_neg_inf]
    show BitVec.ofBool (decide (⊥ < x (ix2 r q))) = 1#1 ↔ _
    by_cases hq : ⊥ < x (ix2 r q)
    · rw [decide_eq_true hq]; exact ⟨fun _ => hq, fun _ => rfl⟩
    · rw [decide_eq_false hq]; exact ⟨fun e => absurd e (by decide), fun e => absurd e hq⟩
  rw [hset] at hcount
  have hle : (Finset.univ.filter fun j : Fin 32768 => ⊥ < rowOf x r j).card ≤ 32768 :=
    (Finset.card_le_univ _).trans_eq (Fintype.card_fin _)
  rw [← hcount] at hle ⊢
  exact le_of_sge _ hle hge

end Cert.TopK

end
-- ==== Proof.Equation.lean ====
/-
  THE EQUATION: where every row has at least 64 elements above −∞, the words the kernel picks are the reference's
  top-64 indices.
-/
module

public import proofs.«01_k».proof.Proof.Block
public import proofs.«01_k».proof.Proof.Reference
public import proofs.«01_k».proof.Proof.Enough

@[expose] public section

noncomputable section

namespace Cert.TopK

open Idealize.ShloMosaic Idealize.ShloMosaic.ValueIdx

/-- The picked words are the indices of the stable top-64. -/
theorem picked_eq [Cert.Pre_enough.Facts] (x : FVec Ideal ⟨2, ![128, 32768]⟩ .f32)
    (hx : Cert.Pre_enough.fn (F := Ideal) x = fun _ => 1#1) (h) :
    picked x = (Host.topK ⟨2, ![128, 64]⟩ 1 (FloatOps.cmpfTotal .gt) x h).2 := by
  funext j
  obtain ⟨r, q, rfl⟩ : ∃ (r : Fin 128) (q : Fin 64), j = ix2 r q := ⟨j 0, j 1, eq_ix2 j⟩
  rw [reference_apply]
  have hq : (wide q).val < (Finset.univ.filter fun j : Fin 32768 => ⊥ < rowOf x r j).card :=
    lt_of_lt_of_le q.isLt (enough_count x hx r)
  exact pick_rounds (by decide) (rowOf x r) (wide q) hq

end Cert.TopK

end
-- ==== Proof.lean ====
/-
  THE CERTIFICATE of the top-64 kernel: its claims put together from the modules beside this file.  `frame_reference`
  is the reference's frame, `algebraic` the equation of the two programs' results, and `claim` all five claims.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.Equation

public import proofs.«01_k».proof.Proof.Gen.KernelIdeal.Value
public import proofs.«01_k».proof.Proof.Gen.ReferenceIdeal.Run

@[expose] public section

noncomputable section

namespace Cert.Proof

open Idealize.ShloMosaic Idealize.SL.Sem Cert.Kernel

/-- The reference runs, keeps its argument and, having no semaphore, leaves none raised. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Both programs run and end with the same indices: the kernel's picked words, which where every row has 64 elements
above −∞ are the reference's top-64 indices. -/
theorem algebraic (hE : Cert.Pre_enough.Facts) : Cert.algebraic_KernelIdeal_ReferenceIdeal_pre_enough := by
  intro m g m' g' hpre hagree
  refine ⟨fun c => Cert.TopK.picked (Cert.TopK.arg m c), ?_, ?_⟩
  · exact (θ_run Cert.KernelIdeal.defs _ _).mono (fun _ h c => ⟨(h c).1.trans (Cert.TopK.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    rw [hagree c]
    exact (Cert.TopK.picked_eq _ (hpre c) _).symm

/-- `Cert.Claim` (Defs.lean): the three frames, the idealization, and the equation of the results. -/
theorem claim : Cert.Claim := ⟨Cert.Kernel.Gen.facts, Cert.KernelIdeal.Gen.facts, Cert.ReferenceIdeal.Gen.facts, Cert.TopK.enough_facts,
  fun m g _ => Cert.Kernel.Gen.frame m g, fun m g _ => Cert.KernelIdeal.Gen.frame m g, fun m g _ => Cert.KernelIdeal.Gen.frame m g,
  fun m g _ => frame_reference m g, fun m g _ => frame_reference m g, trivial, algebraic Cert.TopK.enough_facts⟩

end Cert.Proof

end
